-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "pi" .f32 0x40490FDB#32 ((Real.pi : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x1024x3 : Shape := ⟨3, ![256, 1024, 3]⟩
abbrev S256x1024 : Shape := ⟨2, ![256, 1024]⟩
abbrev S1x257 : Shape := ⟨2, ![1, 257]⟩
abbrev S257x128 : Shape := ⟨2, ![257, 128]⟩
abbrev S_ : Shape := ⟨0, ![]⟩
abbrev S256x1x3 : Shape := ⟨3, ![256, 1, 3]⟩
abbrev S256x1025x3 : Shape := ⟨3, ![256, 1025, 3]⟩
abbrev S262400x3 : Shape := ⟨2, ![262400, 3]⟩
abbrev S262400 : Shape := ⟨1, ![262400]⟩
abbrev S262400x1 : Shape := ⟨2, ![262400, 1]⟩
abbrev S262400x4 : Shape := ⟨2, ![262400, 4]⟩
abbrev S2050 : Shape := ⟨1, ![2050]⟩
abbrev S2050x1 : Shape := ⟨2, ![2050, 1]⟩
abbrev S2050x257 : Shape := ⟨2, ![2050, 257]⟩
abbrev S2050x257x1 : Shape := ⟨3, ![2050, 257, 1]⟩
abbrev S2050x257x4 : Shape := ⟨3, ![2050, 257, 4]⟩
abbrev S2050x257x128 : Shape := ⟨3, ![2050, 257, 128]⟩
abbrev S10x257x4 : Shape := ⟨3, ![10, 257, 4]⟩
abbrev S10x257x128 : Shape := ⟨3, ![10, 257, 128]⟩
abbrev S1x257x4 : Shape := ⟨3, ![1, 257, 4]⟩
abbrev S257x4 : Shape := ⟨2, ![257, 4]⟩
abbrev S257x1 : Shape := ⟨2, ![257, 1]⟩
abbrev S1x257x128 : Shape := ⟨3, ![1, 257, 128]⟩
abbrev S256x1025x257 : Shape := ⟨3, ![256, 1025, 257]⟩
abbrev S256x1 : Shape := ⟨2, ![256, 1]⟩
abbrev S256x1025 : Shape := ⟨2, ![256, 1025]⟩

abbrev nBuf : Space → Nat
  | .hbm => 78
  | .vmem => 11
  | .smem => 0
  | _ => 0

abbrev bufTy : (tb : Table) → Fin (tcTables nBuf tb) → BufTy
  | .hbm, ⟨0, _⟩ => ⟨S256x1024x3, .f32⟩
  | .hbm, ⟨1, _⟩ => ⟨S256x1024, .i1⟩
  | .hbm, ⟨2, _⟩ => ⟨S1x257, .i32⟩
  | .hbm, ⟨3, _⟩ => ⟨S257x128, .i32⟩
  | .hbm, ⟨4, _⟩ => ⟨S257x128, .i32⟩
  | .hbm, ⟨5, _⟩ => ⟨S257x128, .i32⟩
  | .hbm, ⟨6, _⟩ => ⟨S257x128, .f32⟩
  | .hbm, ⟨7, _⟩ => ⟨S257x128, .f32⟩
  | .hbm, ⟨8, _⟩ => ⟨S_, .f32⟩
  | .hbm, ⟨9, _⟩ => ⟨S256x1x3, .f32⟩
  | .hbm, ⟨10, _⟩ => ⟨S256x1025x3, .f32⟩
  | .hbm, ⟨11, _⟩ => ⟨S262400x3, .f32⟩
  | .hbm, ⟨12, _⟩ => ⟨S262400, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S262400, .i32⟩
  | .hbm, ⟨20, _⟩ => ⟨S262400, .i32⟩
  | .hbm, ⟨21, _⟩ => ⟨S_, .i32⟩
  | .hbm, ⟨22, _⟩ => ⟨S262400, .i32⟩
  | .hbm, ⟨23, _⟩ => ⟨S262400, .i1⟩
  | .hbm, ⟨24, _⟩ => ⟨S_, .i32⟩
  | .hbm, ⟨25, _⟩ => ⟨S262400, .i32⟩
  | .hbm, ⟨26, _⟩ => ⟨S262400, .i1⟩
  | .hbm, ⟨27, _⟩ => ⟨S_, .i32⟩
  | .hbm, ⟨28, _⟩ => ⟨S_, .i1⟩
  | .hbm, ⟨29, _⟩ => ⟨S262400, .i1⟩
  | .hbm, ⟨30, _⟩ => ⟨S262400, .i1⟩
  | .hbm, ⟨31, _⟩ => ⟨S262400, .i1⟩
  | .hbm, ⟨32, _⟩ => ⟨S262400, .i32⟩
  | .hbm, ⟨33, _⟩ => ⟨S262400, .i32⟩
  | .hbm, ⟨34, _⟩ => ⟨S262400, .i32⟩
  | .hbm, ⟨35, _⟩ => ⟨S_, .i32⟩
  | .hbm, ⟨36, _⟩ => ⟨S262400, .i32⟩
  | .hbm, ⟨37, _⟩ => ⟨S262400, .i1⟩
  | .hbm, ⟨38, _⟩ => ⟨S262400, .f32⟩
  | .hbm, ⟨39, _⟩ => ⟨S262400x1, .f32⟩
  | .hbm, ⟨40, _⟩ => ⟨S262400x4, .f32⟩
  | .hbm, ⟨41, _⟩ => ⟨S2050, .i32⟩
  | .hbm, ⟨42, _⟩ => ⟨S2050x1, .i32⟩
  | .hbm, ⟨43, _⟩ => ⟨S_, .i32⟩
  | .hbm, ⟨44, _⟩ => ⟨S2050x1, .i32⟩
  | .hbm, ⟨45, _⟩ => ⟨S2050x1, .i32⟩
  | .hbm, ⟨46, _⟩ => ⟨S2050x257, .i32⟩
  | .hbm, ⟨47, _⟩ => ⟨S2050x257, .i32⟩
  | .hbm, ⟨48, _⟩ => ⟨S2050x257, .i32⟩
  | .hbm, ⟨49, _⟩ => ⟨S_, .i32⟩
  | .hbm, ⟨50, _⟩ => ⟨S2050x257, .i32⟩
  | .hbm, ⟨51, _⟩ => ⟨S2050x257, .i32⟩
  | .hbm, ⟨52, _⟩ => ⟨S_, .i32⟩
  | .hbm, ⟨53, _⟩ => ⟨S2050x257, .i32⟩
  | .hbm, ⟨54, _⟩ => ⟨S2050x257, .i32⟩
  | .hbm, ⟨55, _⟩ => ⟨S_, .i32⟩
  | .hbm, ⟨56, _⟩ => ⟨S2050x257, .i32⟩
  | .hbm, ⟨57, _⟩ => ⟨S2050x257, .i1⟩
  | .hbm, ⟨58, _⟩ => ⟨S_, .i32⟩
  | .hbm, ⟨59, _⟩ => ⟨S2050x257, .i32⟩
  | .hbm, ⟨60, _⟩ => ⟨S2050x257, .i32⟩
  | .hbm, ⟨61, _⟩ => ⟨S2050x257, .i32⟩
  | .hbm, ⟨62, _⟩ => ⟨S2050x257x1, .i32⟩
  | .hbm, ⟨63, _⟩ => ⟨S2050x257x4, .f32⟩
  | .hbm, ⟨64, _⟩ => ⟨S_, .i32⟩
  | .hbm, ⟨65, _⟩ => ⟨S2050x257, .i32⟩
  | .hbm, ⟨66, _⟩ => ⟨S2050x257, .i1⟩
  | .hbm, ⟨67, _⟩ => ⟨S_, .i32⟩
  | .hbm, ⟨68, _⟩ => ⟨S2050x257, .i32⟩
  | .hbm, ⟨69, _⟩ => ⟨S2050x257, .i32⟩
  | .hbm, ⟨70, _⟩ => ⟨S2050x257, .i32⟩
  | .hbm, ⟨71, _⟩ => ⟨S2050x257x1, .i32⟩
  | .hbm, ⟨72, _⟩ => ⟨S2050x257x4, .f32⟩
  | .hbm, ⟨73, _⟩ => ⟨S2050x257x128, .f32⟩
  | .hbm, ⟨74, _⟩ => ⟨S256x1025x257, .f32⟩
  | .hbm, ⟨75, _⟩ => ⟨S_, .i1⟩
  | .hbm, ⟨76, _⟩ => ⟨S256x1, .i1⟩
  | .hbm, ⟨77, _⟩ => ⟨S256x1025, .i1⟩
  | .local _ .vmem, ⟨0, _⟩ => ⟨S10x257x4, .f32⟩
  | .local _ .vmem, ⟨1, _⟩ => ⟨S10x257x4, .f32⟩
  | .local _ .vmem, ⟨2, _⟩ => ⟨S10x257x4, .f32⟩
  | .local _ .vmem, ⟨3, _⟩ => ⟨S10x257x4, .f32⟩
  | .local _ .vmem, ⟨4, _⟩ => ⟨S257x128, .i32⟩
  | .local _ .vmem, ⟨5, _⟩ => ⟨S257x128, .i32⟩
  | .local _ .vmem, ⟨6, _⟩ => ⟨S257x128, .i32⟩
  | .local _ .vmem, ⟨7, _⟩ => ⟨S257x128, .f32⟩
  | .local _ .vmem, ⟨8, _⟩ => ⟨S257x128, .f32⟩
  | .local _ .vmem, ⟨9, _⟩ => ⟨S10x257x128, .f32⟩
  | .local _ .vmem, ⟨10, _⟩ => ⟨S10x257x128, .f32⟩
  | _, _ => ⟨S256x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_cst : Ref sig .tc := ⟨.hbm, 6, rfl⟩
abbrev main_cst_3 : Ref sig .tc := ⟨.hbm, 7, rfl⟩
abbrev main_cst_4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_5 : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v4 : Ref sig .tc := ⟨.hbm, 34, rfl⟩
abbrev main_c_6 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_c_7 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_c_8 : Ref sig .tc := ⟨.hbm, 49, rfl⟩
abbrev main_v17 : Ref sig .tc := ⟨.hbm, 50, rfl⟩
abbrev main_v18 : Ref sig .tc := ⟨.hbm, 51, rfl⟩
abbrev main_c_9 : Ref sig .tc := ⟨.hbm, 52, rfl⟩
abbrev main_v19 : Ref sig .tc := ⟨.hbm, 53, rfl⟩
abbrev main_v20 : Ref sig .tc := ⟨.hbm, 54, rfl⟩
abbrev main_c_10 : Ref sig .tc := ⟨.hbm, 55, rfl⟩
abbrev main_v21 : Ref sig .tc := ⟨.hbm, 56, rfl⟩
abbrev main_v22 : Ref sig .tc := ⟨.hbm, 57, rfl⟩
abbrev main_c_11 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_c_12 : Ref sig .tc := ⟨.hbm, 64, rfl⟩
abbrev main_v28 : Ref sig .tc := ⟨.hbm, 65, rfl⟩
abbrev main_v29 : Ref sig .tc := ⟨.hbm, 66, rfl⟩
abbrev main_c_13 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_c_14 : Ref sig .tc := ⟨.hbm, 75, rfl⟩
abbrev main_v37 : Ref sig .tc := ⟨.hbm, 76, rfl⟩
abbrev main_v38 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![205], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10x257x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x257x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S257x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S257x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S257x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S257x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S257x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10x257x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "pi" => some ((Real.pi : ℝ) : EReal)
  | _ => none
-- ==== ReferenceIdeal.lean ====
abbrev S256x1024x3 : Shape := ⟨3, ![256, 1024, 3]⟩
abbrev S256x1024 : Shape := ⟨2, ![256, 1024]⟩
abbrev S64 : Shape := ⟨1, ![64]⟩
abbrev S_ : Shape := ⟨0, ![]⟩
abbrev S256x1024x1 : Shape := ⟨3, ![256, 1024, 1]⟩
abbrev S1x64 : Shape := ⟨2, ![1, 64]⟩
abbrev S1x1x64 : Shape := ⟨3, ![1, 1, 64]⟩
abbrev S256x1024x64 : Shape := ⟨3, ![256, 1024, 64]⟩
abbrev S256x1024x256 : Shape := ⟨3, ![256, 1024, 256]⟩
abbrev S256x1024x257 : Shape := ⟨3, ![256, 1024, 257]⟩
abbrev S256x1x257 : Shape := ⟨3, ![256, 1, 257]⟩
abbrev S256x1025x257 : Shape := ⟨3, ![256, 1025, 257]⟩
abbrev S256x1 : Shape := ⟨2, ![256, 1]⟩
abbrev S256x1025 : Shape := ⟨2, ![256, 1025]⟩

abbrev nBuf : Space → Nat
  | .hbm => 41
  | .vmem => 0
  | .smem => 0
  | _ => 0

abbrev bufTy : (tb : Table) → Fin (tcTables nBuf tb) → BufTy
  | .hbm, ⟨0, _⟩ => ⟨S256x1024x3, .f32⟩
  | .hbm, ⟨1, _⟩ => ⟨S256x1024, .i1⟩
  | .hbm, ⟨2, _⟩ => ⟨S64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S256x1024x1, .f32⟩
  | .hbm, ⟨7, _⟩ => ⟨S1x64, .f32⟩
  | .hbm, ⟨8, _⟩ => ⟨S1x1x64, .f32⟩
  | .hbm, ⟨9, _⟩ => ⟨S256x1024x64, .f32⟩
  | .hbm, ⟨10, _⟩ => ⟨S256x1024x64, .f32⟩
  | .hbm, ⟨11, _⟩ => ⟨S256x1024x64, .f32⟩
  | .hbm, ⟨12, _⟩ => ⟨S256x1024x1, .f32⟩
  | .hbm, ⟨13, _⟩ => ⟨S1x64, .f32⟩
  | .hbm, ⟨14, _⟩ => ⟨S1x1x64, .f32⟩
  | .hbm, ⟨15, _⟩ => ⟨S256x1024x64, .f32⟩
  | .hbm, ⟨16, _⟩ => ⟨S256x1024x64, .f32⟩
  | .hbm, ⟨17, _⟩ => ⟨S256x1024x64, .f32⟩
  | .hbm, ⟨18, _⟩ => ⟨S256x1024x64, .f32⟩
  | .hbm, ⟨19, _⟩ => ⟨S256x1024x64, .f32⟩
  | .hbm, ⟨20, _⟩ => ⟨S256x1024x64, .f32⟩
  | .hbm, ⟨21, _⟩ => ⟨S256x1024x64, .f32⟩
  | .hbm, ⟨22, _⟩ => ⟨S256x1024x64, .f32⟩
  | .hbm, ⟨23, _⟩ => ⟨S256x1024x64, .f32⟩
  | .hbm, ⟨24, _⟩ => ⟨S256x1024x64, .f32⟩
  | .hbm, ⟨25, _⟩ => ⟨S256x1024x64, .f32⟩
  | .hbm, ⟨26, _⟩ => ⟨S256x1024x64, .f32⟩
  | .hbm, ⟨27, _⟩ => ⟨S256x1024x64, .f32⟩
  | .hbm, ⟨28, _⟩ => ⟨S256x1024x64, .f32⟩
  | .hbm, ⟨29, _⟩ => ⟨S256x1024x64, .f32⟩
  | .hbm, ⟨30, _⟩ => ⟨S256x1024x256, .f32⟩
  | .hbm, ⟨31, _⟩ => ⟨S256x1024x1, .f32⟩
  | .hbm, ⟨32, _⟩ => ⟨S256x1024x257, .f32⟩
  | .hbm, ⟨33, _⟩ => ⟨S256x1x257, .f32⟩
  | .hbm, ⟨34, _⟩ => ⟨S_, .f32⟩
  | .hbm, ⟨35, _⟩ => ⟨S256x1x257, .f32⟩
  | .hbm, ⟨36, _⟩ => ⟨S256x1025x257, .f32⟩
  | .hbm, ⟨37, _⟩ => ⟨S256x1, .i1⟩
  | .hbm, ⟨38, _⟩ => ⟨S_, .i1⟩
  | .hbm, ⟨39, _⟩ => ⟨S256x1, .i1⟩
  | .hbm, ⟨40, _⟩ => ⟨S256x1025, .i1⟩
  | _, _ => ⟨S256x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_cst_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Proof.Trig.lean ====
module

public import Idealize.ShloMosaic.PureOps.Ideal
public import Idealize.ShloMosaic.PureOps.Ideal.Laws
public import Idealize.ShloMosaic.Lib.IdealHost

@[expose] public section

/-!
# The trigonometry of the kernel

The kernel evaluates a sine of half turns: it rounds the angle `t` to an integer `n`, takes the sine of `π (t - n)`
and multiplies by `1 - 2 (n - 2 ⌊n / 2⌋)`, which is `1` for an even `n` and `-1` for an odd one. Here that value
is shown to be `sin (π t)` at every extended real `t`, whatever integer `n` is. A quarter turn added to the angle
makes it `cos`.
-/

noncomputable section

namespace Cert.FourierEncoding

open Idealize.ShloMosaic

/-- An integer less twice the floor of its half is its remainder by two. -/
theorem sub_two_mul_floor_half (n : ℤ) : (n : ℝ) - 2 * (⌊(n : ℝ) * (1 / 2)⌋ : ℝ) = ((n % 2 : ℤ) : ℝ) := by
  have h : ⌊(n : ℝ) * (1 / 2)⌋ = n / 2 := by
    have := Int.floor_div_natCast (n : ℝ) 2
    simpa [div_eq_mul_inv] using this
  rw [h, Int.emod_def]
  push_cast
  ring

/-- Reducing an angle by `n` half turns multiplies its sine by `1` or `-1` as `n` is even or odd. -/
theorem sin_reduced (t : ℝ) (n : ℤ) :
    Real.sin (Real.pi * (t - n)) * (1 - 2 * ((n : ℝ) - 2 * (⌊(n : ℝ) * (1 / 2)⌋ : ℝ))) = Real.sin (Real.pi * t) := by
  rw [sub_two_mul_floor_half]
  have e : Real.pi * (t - n) = Real.pi * t - n * Real.pi := by ring
  rw [e, Real.sin_sub_int_mul_pi]
  rcases Int.even_or_odd n with h | h
  · rw [h.neg_one_zpow, Int.even_iff.1 h]; simp
  · rw [h.neg_one_zpow, Int.odd_iff.1 h]; norm_num

/-- The kernel's sine of `t` half turns: reduction by the nearest integer, sine, sign. -/
def sinHalfTurns (t : EReal) : EReal :=
  Ideal.sin ((Real.pi : EReal) * (t - Ideal.liftRound Ideal.roundHalfEven t))
    * (Ideal.ofBits .f32 0x3F800000#32 - Ideal.ofBits .f32 0x40000000#32
        * (Ideal.liftRound Ideal.roundHalfEven t - Ideal.ofBits .f32 0x40000000#32
            * Ideal.liftRound Int.floor (Ideal.liftRound Ideal.roundHalfEven t * Ideal.ofBits .f32 0x3F000000#32)))

/-- The pattern of `2.0` is the real two. -/
theorem ofBits_two : Ideal.ofBits .f32 0x40000000#32 = ((2 : ℝ) : EReal) := by
  simp [Ideal.ofBits, Ideal.ieee, ← EReal.coe_mul]; norm_num

/-- The pattern of `0.5` is the real one half. -/
theorem ofBits_half : Ideal.ofBits .f32 0x3F000000#32 = ((1 / 2 : ℝ) : EReal) := by
  simp [Ideal.ofBits, Ideal.ieee, ← EReal.coe_mul]; norm_num

/-- The kernel's reduced sine is `sin (π t)`, at the infinities too (both sides are then the value that stands for
    "no number"). -/
theorem sinHalfTurns_eq (t : EReal) : sinHalfTurns t = Ideal.sin ((Real.pi : EReal) * t) := by
  unfold sinHalfTurns
  rw [ofBits_two, ofBits_half, Ideal.ofBits_one_f32]
  induction t with
  | bot =>
    have h : (⊥ : EReal) * ((1 / 2 : ℝ) : EReal) = ⊥ := EReal.bot_mul_coe_of_pos (by norm_num)
    have h2 : ((2 : ℝ) : EReal) * ⊥ = ⊥ := EReal.coe_mul_bot_of_pos (by norm_num)
    rw [Ideal.liftRound_bot, h, Ideal.liftRound_bot, h2, EReal.coe_mul_bot_of_pos Real.pi_pos]
    simp only [sub_eq_add_neg, EReal.add_bot, EReal.bot_add, h2, EReal.neg_bot, EReal.coe_mul_bot_of_pos Real.pi_pos, Ideal.sin_bot,
      Ideal.sin_top, EReal.neg_top]
    rw [← EReal.coe_one, EReal.coe_add_top, EReal.bot_mul_top]
  | top =>
    have h : (⊤ : EReal) * ((1 / 2 : ℝ) : EReal) = ⊤ := EReal.top_mul_coe_of_pos (by norm_num)
    have h2 : ((2 : ℝ) : EReal) * ⊥ = ⊥ := EReal.coe_mul_bot_of_pos (by norm_num)
    have h3 : ((2 : ℝ) : EReal) * ⊤ = ⊤ := EReal.coe_mul_top_of_pos (by norm_num)
    rw [Ideal.liftRound_top, h, Ideal.liftRound_top, h3, EReal.coe_mul_top_of_pos Real.pi_pos]
    simp only [sub_eq_add_neg, EReal.add_bot, EReal.bot_add, h2, EReal.neg_bot, EReal.coe_mul_bot_of_pos Real.pi_pos, Ideal.sin_bot,
      Ideal.sin_top, EReal.neg_top]
    rw [← EReal.coe_one, EReal.coe_add_top, EReal.bot_mul_top]
  | coe t =>
    rw [Ideal.liftRound_coe, ← EReal.coe_mul, Ideal.liftRound_coe, ← EReal.coe_one, ← EReal.coe_mul, ← EReal.coe_sub,
      ← EReal.coe_sub, ← EReal.coe_mul, ← EReal.coe_mul, ← EReal.coe_sub, Ideal.sin_coe, ← EReal.coe_mul, ← EReal.coe_mul, Ideal.sin_coe,
      sin_reduced]

/-- A quarter turn more makes the sine a cosine, at the infinities too. -/
theorem sin_quarter (g : EReal) :
    Ideal.sin ((Real.pi : EReal) * (g + Ideal.ofBits .f32 0x3F000000#32)) = Ideal.cos ((Real.pi : EReal) * g) := by
  rw [ofBits_half]
  induction g with
  | bot => simp [EReal.coe_mul_bot_of_pos Real.pi_pos]
  | top => simp [EReal.coe_mul_top_of_pos Real.pi_pos]
  | coe g =>
    rw [← EReal.coe_add, ← EReal.coe_mul, ← EReal.coe_mul, Ideal.sin_coe, Ideal.cos_coe,
      show Real.pi * (g + 1 / 2) = Real.pi * g + Real.pi / 2 by ring, Real.sin_add_pi_div_two]

/-- The angle of the point `(-1, 0)`, which the reference takes for its half turn, is `π`. -/
theorem half_turn : Ideal.atan2 (Ideal.ofBits .f32 0x00000000#32) (Ideal.ofBits .f32 0xBF800000#32) = (Real.pi : EReal) := by
  have h : Ideal.ofBits .f32 0xBF800000#32 = ((-1 : ℝ) : EReal) := by
    simp [Ideal.ofBits, Ideal.ieee, ← EReal.coe_mul]; norm_num
  rw [h, Ideal.ofBits_zero_f32]
  show ((if (0 : ℝ) < -1 then _ else if (-1 : ℝ) < 0 then if (0 : ℝ) ≤ 0 then Real.arctan (0 / -1) + Real.pi else _ else _ : ℝ) : EReal) = _
  norm_num

end Cert.FourierEncoding

end
-- ==== Proof.Body.lean ====
module

public import proofs.«01_k».proof.Proof.Gen.KernelIdeal.Frame
public import Idealize.ShloMosaic.Lib.Pipeline.Value
public import Idealize.ShloMosaic.Lib.Pipeline.ValueKit
public import Idealize.ShloMosaic.Lib.Pointwise
public import proofs.«01_k».proof.Proof.Trig

@[expose] public section

noncomputable section

namespace Cert.FourierEncoding

open Idealize.ShloMosaic Cert.KernelIdeal Cert.KernelIdeal.Gen

set_option maxRecDepth 16384
set_option maxHeartbeats 1000000

/-- The first or the second of two values, the second where the table's word is not zero. -/
def pick (w : BitVec 32) (a b : EReal) : EReal := Scalar.select (IntOp.cmpi .ne w 0#32) b a

/-- What the body computes at one position from the words of the five tables there and the two candidate records. -/
def cell (second next pass : BitVec 32) (freq phase : EReal) (a b : Fin 4 → EReal) : EReal :=
  pick pass (sinHalfTurns (pick next (pick second (a 0) (a 1)) (pick second (b 0) (b 1)) * freq + phase)) (pick next (a 2) (b 2))
    * pick next (a 3) (b 3)

/-- The name `pi` stands for the number `π`. -/
theorem named_pi : (Named.named κ "pi" 0x40490FDB#32 : Ideal .f32) = (Real.pi : EReal) := rfl

/-- The ten stores of a grid point leave, at position `(q, l)` of slab `s`, the cell's value of the slab's records there. -/
theorem out_apply (ga gb : Vec Ideal S10x257x4 .f32) (second next pass : Vec Ideal S257x128 .i32) (freq phase : Vec Ideal S257x128 .f32)
    (s : Fin 10) (q : Fin 257) (l : Fin 128) :
    out0_7 ga gb second next pass freq phase (ix3 s q l)
      = cell (second (ix2 q l)) (next (ix2 q l)) (pass (ix2 q l)) (freq (ix2 q l)) (phase (ix2 q l))
          (fun j => ga (ix3 s q j)) (fun j => gb (ix3 s q j)) := by
  canon_tiles x h
  all_goals
    idx_vars x
    obtain rfl : q = x1 := Fin.ext h1
    obtain rfl : l = x2 := Fin.ext h2
    obtain rfl : x0 = 0 := Subsingleton.elim _ _
    obtain ⟨s, hs⟩ := s
    obtain rfl : s = _ := h0
    unfold_payloads
    pointwise [cell, pick, sinHalfTurns, named_pi]

end Cert.FourierEncoding

end
-- ==== Proof.Arr.lean ====
module

public import proofs.«01_k».proof.Proof.Body
public import Idealize.ShloMosaic.Lib.Claim

@[expose] public section

noncomputable section

namespace Cert.FourierEncoding

open Idealize.ShloMosaic Idealize.ShloMosaic.TcCoe Cert.KernelIdeal Cert.KernelIdeal.Gen

set_option maxRecDepth 16384
set_option maxHeartbeats 1000000

variable (m : (ℓ : Loc nD τ sig) → Buf (Elt Ideal) ℓ) (c : Dev nD)

/-- What the pipeline leaves in the output array, from the arrays that it reads. -/
def slabs (i : S2050x257x128.Idx) : EReal :=
  cell ((V m c main_c_0 : S257x128.Idx → BitVec 32) (ix2 (i 1) (i 2))) ((V m c main_c_1 : S257x128.Idx → BitVec 32) (ix2 (i 1) (i 2)))
    ((V m c main_c_2 : S257x128.Idx → BitVec 32) (ix2 (i 1) (i 2))) ((V m c main_cst : S257x128.Idx → EReal) (ix2 (i 1) (i 2)))
    ((V m c main_cst_3 : S257x128.Idx → EReal) (ix2 (i 1) (i 2)))
    (fun j => (V m c main_v27 : S2050x257x4.Idx → EReal) (ix3 (i 0) (i 1) j)) (fun j => (V m c main_v34 : S2050x257x4.Idx → EReal) (ix3 (i 0) (i 1) j))

/-- The blocks of the two gathered operands and of the result move along axis 0 with the grid point; each table is one block. -/
theorem idx_first : ∀ t : Fin cfg0.N, win0_0.index t = ![t.val, 0, 0] := (by decide +kernel : ∀ t : Fin grid0.N, win0_0.index t = ![t.val, 0, 0])
/-- Grid step `t` reads block `t` of the second gathered array. -/
theorem idx_next : ∀ t : Fin cfg0.N, win0_1.index t = ![t.val, 0, 0] := (by decide +kernel : ∀ t : Fin grid0.N, win0_1.index t = ![t.val, 0, 0])
/-- Grid step `t` writes block `t` of the output. -/
theorem idx_out : ∀ t : Fin cfg0.N, win0_7.index t = ![t.val, 0, 0] := (by decide +kernel : ∀ t : Fin grid0.N, win0_7.index t = ![t.val, 0, 0])

/-- Each table is one block, the same at every grid point. -/
theorem idx_tables : ∀ t : Fin cfg0.N, win0_2.index t = ![0, 0] ∧ win0_3.index t = ![0, 0] ∧ win0_4.index t = ![0, 0] ∧ win0_5.index t = ![0, 0] ∧ win0_6.index t = ![0, 0] :=
  (by decide +kernel : ∀ t : Fin grid0.N, win0_2.index t = ![0, 0] ∧ win0_3.index t = ![0, 0] ∧ win0_4.index t = ![0, 0] ∧ win0_5.index t = ![0, 0] ∧ win0_6.index t = ![0, 0])

/-- The pipeline leaves `slabs` in the output array: its blocks of ten slabs cover it. -/
theorem arr_eq : (dats m 0 c).arrAt 7 cfg0.N = slabs m c := by
  refine (dats m 0 c).arrAt_eq_of_covers 7 _ (by decide +kernel) fun t hf y => ?_
  blk_simp
  rw [after0_7]
  have hN : t.val < 205 := t.isLt
  obtain ⟨s, q, l, rfl⟩ : ∃ (s : Fin 10) (q : Fin 257) (l : Fin 128), y = ix3 s q l := ⟨y 0, y 1, y 2, (ix3_eta y).symm⟩
  rw [out_apply]
  have e : (win0_7.blk t).view.emb (ix3 s q l) = ix3 (⟨t.val * 10 + s.val, by omega⟩ : Fin 2050) q l := by
    blk_ext [idx_out]
  rw [e]
  have e0 : ∀ j : Fin 4, iblk m c 0 t (ix3 s q j) = V m c main_v27 (ix3 (⟨t.val * 10 + s.val, by omega⟩ : Fin 2050) q j) := fun j => by
    blk_simp [iblk]
    exact congrArg _ (by blk_ext [idx_first])
  have e1 : ∀ j : Fin 4, iblk m c 1 t (ix3 s q j) = V m c main_v34 (ix3 (⟨t.val * 10 + s.val, by omega⟩ : Fin 2050) q j) := fun j => by
    blk_simp [iblk]
    exact congrArg _ (by blk_ext [idx_next])
  have e2 : iblk m c 2 t (ix2 q l) = V m c main_c_0 (ix2 q l) := by
    blk_simp [iblk]
    exact congrArg _ (by blk_ext [(idx_tables t).1])
  have e3 : iblk m c 3 t (ix2 q l) = V m c main_c_1 (ix2 q l) := by
    blk_simp [iblk]
    exact congrArg _ (by blk_ext [(idx_tables t).2.1])
  have e4 : iblk m c 4 t (ix2 q l) = V m c main_c_2 (ix2 q l) := by
    blk_simp [iblk]
    exact congrArg _ (by blk_ext [(idx_tables t).2.2.1])
  have e5 : iblk m c 5 t (ix2 q l) = V m c main_cst (ix2 q l) := by
    blk_simp [iblk]
    exact congrArg _ (by blk_ext [(idx_tables t).2.2.2.1])
  have e6 : iblk m c 6 t (ix2 q l) = V m c main_cst_3 (ix2 q l) := by
    blk_simp [iblk]
    exact congrArg _ (by blk_ext [(idx_tables t).2.2.2.2])
  simp only [e0, e1, e2, e3, e4, e5, e6]
  rfl

end Cert.FourierEncoding

end
-- ==== Proof.Run.lean ====
module

public import proofs.«01_k».proof.Proof.Gen.KernelIdeal.Frame
public import Idealize.ShloMosaic.Lib.Pipeline.Value
public import Idealize.ShloMosaic.Lib.Pipeline.ValueKit
public import Idealize.ShloMosaic.Lib.Claim
public import Idealize.ShloMosaic.Lib.StableHlo.ReadAt

@[expose] public section

noncomputable section

namespace Cert.FourierEncoding

open Idealize.ShloMosaic Idealize.ShloMosaic.TcCoe Cert.KernelIdeal Cert.KernelIdeal.Gen

set_option maxRecDepth 16384
set_option maxHeartbeats 1000000

variable (m : (ℓ : Loc nD τ sig) → Buf (Elt Ideal) ℓ) (ρ : Dev nD → PrngReg)

/-- The padding mask with the appended column of zeros. -/
def extended (x : S256x1024.Idx → BitVec 1) : S256x1025.Idx → BitVec 1 :=
  concatenate S256x1025 1 [⟨S256x1024, x⟩, ⟨S256x1, broadcastInDim S256x1 ![] bcast_S_S256x1 (constantI S_ 1 0#1)⟩] concatenates_S256x1024_S256x1_S256x1025_d1

/-- A run of the kernel ends with the array that its grid leaves, reshaped, in its first result, the padding mask with the
    appended column in its second result, and its arguments as they were. -/
theorem kernel_run : θ_run defs (onTc (τ := τ) (main (F := Ideal))) ⟨m, fun _ => 0, ρ⟩ fun r => ∀ c : Dev nD,
    r.2.mem (c.tc.loc main_v36) = shapeCast S256x1025x257 ((dats m 0 c).arrAt 7 cfg0.N : S2050x257x128.Idx → EReal) shapeCasts_S2050x257x128_S256x1025x257
    ∧ r.2.mem (c.tc.loc main_v38) = extended (m (c.tc.loc main_arg1))
    ∧ r.2.mem (c.tc.loc main_arg0) = m (c.tc.loc main_arg0)
    ∧ r.2.mem (c.tc.loc main_arg1) = m (c.tc.loc main_arg1) := by
  refine (θ_run defs _ _).mono (fun r h c => ⟨?_, ?_, ?_, ?_⟩) (run_main m ρ)
  · refine ((h c).2 main_v36 (Pipeline.mem_restRefs_of main_v36 (by decide) (by decide))).trans ?_
    unfold Pipeline.afterTail₀
    after_reads_simp
    exact congrArg (fun x => shapeCast S256x1025x257 x shapeCasts_S2050x257x128_S256x1025x257)
      (Pipeline.withArrays_arr spec0 (by decide) c (V0 m c) (fun w => (dats m 0 c).arrAt w cfg0.N) 7)
  · refine ((h c).2 main_v38 (Pipeline.mem_restRefs_of main_v38 (by decide) (by decide))).trans ?_
    unfold Pipeline.afterTail₀
    after_reads_simp
    refine congrArg₂ (fun x y => concatenate S256x1025 1 [⟨S256x1024, x⟩, ⟨S256x1, y⟩] concatenates_S256x1024_S256x1_S256x1025_d1) ?_ ?_
    · after_reads_simp
      exact (Pipeline.withArrays_of_ne _ c (V0 m c) _ main_arg1 (by exact (by decide : ∀ w, Pipeline.arrRef spec0 w ≠ main_arg1))).trans (V_main_arg1 m c)
    · after_reads_simp
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Cert.FourierEncoding

end
-- ==== Proof.Ref.lean ====
module

public import proofs.«01_k».proof.Proof.Gen.ReferenceIdeal.Run
public import proofs.«01_k».proof.Proof.Trig
public import Idealize.ShloMosaic.Lib.Pointwise
public import Idealize.ShloMosaic.Lib.Claim

@[expose] public section

noncomputable section

namespace Cert.FourierEncoding

open Idealize.ShloMosaic Idealize.ShloMosaic.TcCoe

set_option maxRecDepth 16384
set_option maxHeartbeats 1000000

/-- Frequency `k` of the 64, as the reference's table has it. -/
def frequency (k : Nat) : EReal := Ideal.ofBits .f32 (ReferenceIdeal.lit0 ⟨k % 64, Nat.mod_lt _ (by decide)⟩)

/-- The encoding: at a point the sines of `π x₀ f`, of `π x₁ f`, the cosines of `π x₀ f`, of `π x₁ f`, and `x₂`; zeros at the appended position. -/
def encoding (x : ReferenceIdeal.S256x1024x3.Idx → EReal) (b : Fin 256) (p : Fin 1025) (k : Fin 257) : EReal :=
  if hp : p.val < 1024 then
    if k.val < 64 then Ideal.sin ((Real.pi : EReal) * (x (ix3 b ⟨p.val, hp⟩ (0 : Fin 3)) * frequency k.val))
    else if k.val < 128 then Ideal.sin ((Real.pi : EReal) * (x (ix3 b ⟨p.val, hp⟩ (1 : Fin 3)) * frequency k.val))
    else if k.val < 192 then Ideal.cos ((Real.pi : EReal) * (x (ix3 b ⟨p.val, hp⟩ (0 : Fin 3)) * frequency k.val))
    else if k.val < 256 then Ideal.cos ((Real.pi : EReal) * (x (ix3 b ⟨p.val, hp⟩ (1 : Fin 3)) * frequency k.val))
    else x (ix3 b ⟨p.val, hp⟩ (2 : Fin 3))
  else 0

section

variable (x : ReferenceIdeal.S256x1024x3.Idx → EReal) (b : Fin 256) (p : Fin 1025) (k : Fin 257)

/-- Columns 0 to 63. -/
theorem encoding_sin0 (hp : p.val < 1024) (h : k.val < 64) :
    encoding x b p k = Ideal.sin ((Real.pi : EReal) * (x (ix3 b ⟨p.val, hp⟩ (0 : Fin 3)) * frequency k.val)) := by
  unfold encoding
  rw [dif_pos hp, if_pos h]

/-- Columns 64 to 127. -/
theorem encoding_sin1 (hp : p.val < 1024) (h : ¬k.val < 64) (h' : k.val < 128) :
    encoding x b p k = Ideal.sin ((Real.pi : EReal) * (x (ix3 b ⟨p.val, hp⟩ (1 : Fin 3)) * frequency k.val)) := by
  unfold encoding
  rw [dif_pos hp, if_neg h, if_pos h']

/-- Columns 128 to 191. -/
theorem encoding_cos0 (hp : p.val < 1024) (h : ¬k.val < 128) (h' : k.val < 192) :
    encoding x b p k = Ideal.cos ((Real.pi : EReal) * (x (ix3 b ⟨p.val, hp⟩ (0 : Fin 3)) * frequency k.val)) := by
  unfold encoding
  rw [dif_pos hp, if_neg (by omega), if_neg h, if_pos h']

/-- Columns 192 to 255. -/
theorem encoding_cos1 (hp : p.val < 1024) (h : ¬k.val < 192) (h' : k.val < 256) :
    encoding x b p k = Ideal.cos ((Real.pi : EReal) * (x (ix3 b ⟨p.val, hp⟩ (1 : Fin 3)) * frequency k.val)) := by
  unfold encoding
  rw [dif_pos hp, if_neg (by omega), if_neg (by omega), if_neg h, if_pos h']

/-- Column 256. -/
theorem encoding_last (hp : p.val < 1024) (h : ¬k.val < 256) :
    encoding x b p k = x (ix3 b ⟨p.val, hp⟩ (2 : Fin 3)) := by
  unfold encoding
  rw [dif_pos hp, if_neg (by omega), if_neg (by omega), if_neg (by omega), if_neg h]

/-- The appended position. -/
theorem encoding_appended (hp : ¬p.val < 1024) : encoding x b p k = 0 := by
  unfold encoding
  rw [dif_neg hp]

end

/-- Equal frequencies give equal sines. -/
theorem sin_congr (a : EReal) {f g : EReal} (h : f = g) : Ideal.sin ((Real.pi : EReal) * (a * f)) = Ideal.sin ((Real.pi : EReal) * (a * g)) := by rw [h]
/-- Equal frequencies give equal cosines. -/
theorem cos_congr (a : EReal) {f g : EReal} (h : f = g) : Ideal.cos ((Real.pi : EReal) * (a * f)) = Ideal.cos ((Real.pi : EReal) * (a * g)) := by rw [h]

open Cert.ReferenceIdeal Cert.ReferenceIdeal.Gen in
/-- A run of the reference ends with the encoding of its first argument in its first result, its second argument with a
    column of zeros appended in its second result, and its arguments as they were. -/
theorem reference_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ b p k, (r.2.mem ((c.tc : Thread nD τ).loc main_v30) : S256x1025x257.Idx → EReal) (ix3 b p k) = encoding (m ((c.tc : Thread nD τ).loc main_arg0)) b p k)
      ∧ r.2.mem ((c.tc : Thread nD τ).loc main_v33) = concatenate S256x1025 1 [⟨S256x1024, (m ((c.tc : Thread nD τ).loc main_arg1))⟩, ⟨S256x1, (broadcastInDim S256x1 ![] bcast_S_S256x1 (constantI S_ 1 0#1))⟩] concatenates_S256x1024_S256x1_S256x1025_d1
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ⟨fun b p k => ?_, (h c).2⟩) (Value.run m ρ)
  rw [(h c).1]
  pointwise
  have hπ : Ideal.atan2 0 (Ideal.ofBits .f32 0xBF800000#32) = (Real.pi : EReal) := by
    rw [← Ideal.ofBits_zero_f32]
    exact half_turn
  have hf : ∀ (n : Nat) (h : n < 64), n = k.val % 64 → Ideal.ofBits .f32 (lit0 (S64.rowMajor (ix1 (⟨n, h⟩ : Fin 64)))) = frequency k.val := by
    intro n h e
    refine congrArg (fun i => Ideal.ofBits .f32 (lit0 i)) (Fin.ext ?_)
    rw [rowMajor_val1]
    exact e
  have hk := k.isLt
  simp only [hπ]
  split
  · next hp =>
    split
    · split
      · next h =>
        exact (sin_congr _ (hf k.val h (by omega))).trans
          (encoding_sin0 _ b p k hp (by omega)).symm
      · split
        · next h =>
          exact (sin_congr _ (hf (k.val - 64) h (by omega))).trans
            (encoding_sin1 _ b p k hp (by omega) (by omega)).symm
        · split
          · next h =>
            exact (cos_congr _ (hf (k.val - 64 - 64) h (by omega))).trans
              (encoding_cos0 _ b p k hp (by omega) (by omega)).symm
          · exact (cos_congr _ (hf (k.val - 64 - 64 - 64) (by omega) (by omega))).trans
              (encoding_cos1 _ b p k hp (by omega) (by omega)).symm
    · refine Eq.trans ?_ (encoding_last _ b p k hp (by omega)).symm
      exact congrArg (fun j => (m (c.tc.loc main_arg0) : S256x1024x3.Idx → EReal) (ix3 b ⟨p.val, hp⟩ j)) (Fin.ext (by show 2 + (k.val - 256) = 2; omega))
  · next hp => exact (encoding_appended _ b p k hp).symm

end Cert.FourierEncoding

end
-- ==== Proof.Host.lean ====
module

public import proofs.«01_k».proof.Proof.Gen.KernelIdeal.Frame
public import Idealize.ShloMosaic.Lib.Pipeline.Value
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.Tactic.WordOmega
public import Idealize.ShloMosaic.Lib.StableHlo.Predicate
public import Idealize.ShloMosaic.Lib.Routing.Words
public import Idealize.ShloMosaic.Lib.WordArith

@[expose] public section

noncomputable section

namespace Cert.FourierEncoding

open Idealize.ShloMosaic Idealize.ShloMosaic.TcCoe Cert.KernelIdeal Cert.KernelIdeal.Gen

set_option maxRecDepth 16384
set_option maxHeartbeats 1000000

/-- The gather of whole records: where the start index of `(S, q)` is the word of a record number `r`, the result at
    `(S, q, j)` is component `j` of record `r`. -/
theorem gather_record (rec : S262400x4.Idx → EReal) (idx : IVec S2050x257x1 32) (S : Fin 2050) (q : Fin 257) (j : Fin 4) (r : Fin 262400)
    (h : idx (ix3 S q (0 : Fin 1)) = BitVec.ofNat 32 r.val) :
    Host.gather gather_S262400x4_S2050x257x1_S2050x257x4_2_0_n_n_0_2_14 rec idx (ix3 S q j) = rec (ix2 r j) := by
  unfold Host.gather
  refine congrArg rec (funext fun a => Fin.ext ?_)
  have hr := r.isLt
  match a with
  | ⟨0, _⟩ =>
    have hs : (gather_S262400x4_S2050x257x1_S2050x257x4_2_0_n_n_0_2_14).siIdx (ix3 S q j) ⟨0, by decide⟩ = ix3 S q (0 : Fin 1) := by
      funext b
      match b with
      | ⟨0, _⟩ => rfl
      | ⟨1, _⟩ => rfl
      | ⟨2, _⟩ => rfl
    show min (idx ((gather_S262400x4_S2050x257x1_S2050x257x4_2_0_n_n_0_2_14).siIdx (ix3 S q j) ⟨0, by decide⟩)).toInt.toNat (262400 - 1) + 0 + 0 = r.val
    rw [hs, h, StableHlo.Predicate.toInt_ofNat_small _ (by omega)]
    omega
  | ⟨1, _⟩ =>
    show 0 + 0 + j.val = j.val
    omega

/-- The table of the first record of each run of 128 places. -/
theorem first_table : ∀ q : Fin 257, lit0 q = BitVec.ofNat 32 (128 * q.val / 257) := by decide +kernel

variable (m : (ℓ : Loc nD τ sig) → Buf (Elt Ideal) ℓ) (c : Dev nD)

/-- The same table read at a place of its one row. -/
theorem first_entry (q : Fin 257) : lit0 (S1x257.rowMajor (ix2 (0 : Fin 1) q)) = BitVec.ofNat 32 (128 * q.val / 257) := by
  rw [← first_table]
  refine congrArg lit0 (Fin.ext ?_)
  rw [rowMajor_val2 _ 257 rfl]
  show 0 * 257 + q.val = q.val
  omega

/-- The number of a place of a 257 by 128 table: 128 times its row plus its column. -/
theorem place_val (q : Fin 257) (l : Fin 128) : (S257x128.rowMajor (ix2 q l)).val = 128 * q.val + l.val := by
  rw [rowMajor_val2 _ 128 rfl]
  show q.val * 128 + l.val = _
  omega

/-- The table that says which of the two angles. -/
theorem V_second_table (q : Fin 257) (l : Fin 128) : (V m c main_c_0 : S257x128.Idx → BitVec 32) (ix2 q l) = lit1t (128 * q.val + l.val) := by
  unfold V V0
  after_reads_at
  exact congrArg lit1t (place_val q l)

/-- The table that says which of the two records. -/
theorem V_after_table (q : Fin 257) (l : Fin 128) : (V m c main_c_1 : S257x128.Idx → BitVec 32) (ix2 q l) = lit2t (128 * q.val + l.val) := by
  unfold V V0
  after_reads_at
  exact congrArg lit2t (place_val q l)

/-- The table that says where the third component passes through. -/
theorem V_pass_table (q : Fin 257) (l : Fin 128) : (V m c main_c_2 : S257x128.Idx → BitVec 32) (ix2 q l) = lit3t (128 * q.val + l.val) := by
  unfold V V0
  after_reads_at
  exact congrArg lit3t (place_val q l)

/-- The table of frequencies. -/
theorem V_freq_table (q : Fin 257) (l : Fin 128) : (V m c main_cst : S257x128.Idx → EReal) (ix2 q l) = Ideal.ofBits .f32 (lit4t (128 * q.val + l.val)) := by
  unfold V V0
  after_reads_at
  exact congrArg (fun k => Ideal.ofBits .f32 (lit4t k)) (place_val q l)

/-- The table of phases. -/
theorem V_phase_table (q : Fin 257) (l : Fin 128) : (V m c main_cst_3 : S257x128.Idx → EReal) (ix2 q l) = Ideal.ofBits .f32 (lit5t (128 * q.val + l.val)) := by
  unfold V V0
  after_reads_at
  exact congrArg (fun k => Ideal.ofBits .f32 (lit5t k)) (place_val q l)

/-- The start index of the first gather is the word of record `128 S + n₀(q)`. -/
theorem V_v26 (S : Fin 2050) (q : Fin 257) : V m c main_v26 (ix3 S q (0 : Fin 1)) = BitVec.ofNat 32 (128 * S.val + 128 * q.val / 257) := by
  unfold V V0
  after_reads_at
  rw [first_entry]
  have hS := S.isLt
  have hq := q.isLt
  have e : IntOp.addi (IntOp.muli (128#32) (BitVec.ofNat 32 S.val)) (BitVec.ofNat 32 (128 * q.val / 257)) = BitVec.ofNat 32 (128 * S.val + 128 * q.val / 257) := by
    apply BitVec.eq_of_toNat_eq
    simp only [IntOp.addi, IntOp.muli, BitVec.toNat_add, BitVec.toNat_mul, BitVec.toNat_ofNat]
    omega
  rw [e]
  word_omega

/-- The start index of the second gather is the word of the record after it, the last record where there is none. -/
theorem V_v33 (S : Fin 2050) (q : Fin 257) :
    V m c main_v33 (ix3 S q (0 : Fin 1)) = BitVec.ofNat 32 (min (128 * S.val + 128 * q.val / 257 + 1) 262399) := by
  unfold V V0
  after_reads_at
  rw [first_entry]
  have hS := S.isLt
  have hq := q.isLt
  have e : IntOp.addi (IntOp.addi (IntOp.muli (128#32) (BitVec.ofNat 32 S.val)) (BitVec.ofNat 32 (128 * q.val / 257))) 1#32
      = BitVec.ofNat 32 (128 * S.val + 128 * q.val / 257 + 1) := by
    apply BitVec.eq_of_toNat_eq
    simp only [IntOp.addi, IntOp.muli, BitVec.toNat_add, BitVec.toNat_mul, BitVec.toNat_ofNat]
    omega
  have f : IntOp.minsi (BitVec.ofNat 32 (128 * S.val + 128 * q.val / 257 + 1)) 262399#32
      = BitVec.ofNat 32 (min (128 * S.val + 128 * q.val / 257 + 1) 262399) := by
    have hd : 128 * q.val / 257 < 128 := by omega
    have hn : (BitVec.ofNat 32 (128 * S.val + 128 * q.val / 257 + 1)).toNat = 128 * S.val + 128 * q.val / 257 + 1 := by
      rw [BitVec.toNat_ofNat]
      exact Nat.mod_eq_of_lt (by omega)
    apply BitVec.eq_of_toNat_eq
    rw [WordArith.toNat_minsi_of_lt _ _ (by rw [hn]; omega) (by decide), hn, BitVec.toNat_ofNat]
    exact (Nat.mod_eq_of_lt (by omega)).symm
  rw [e, f]
  word_omega

/-- The first gathered array holds, at slab `S` and row `q`, the record whose number is that of the first one in that run of 128 places. -/
theorem V_v27 (S : Fin 2050) (q : Fin 257) (j : Fin 4) (r : Fin 262400) (hr : r.val = 128 * S.val + 128 * q.val / 257) :
    V m c main_v27 (ix3 S q j) = V m c main_v9 (ix2 r j) := by
  have e := V_v26 m c S q
  have h : V m c main_v27 = Host.gather gather_S262400x4_S2050x257x1_S2050x257x4_2_0_n_n_0_2_14 (V m c main_v9) (V m c main_v26) := by
    unfold V V0
    after_reads_simp
  rw [h]
  exact gather_record _ _ S q j r (by rw [e, hr])

/-- The second gathered array holds the next record, or the last one when there is no next. -/
theorem V_v34 (S : Fin 2050) (q : Fin 257) (j : Fin 4) (r : Fin 262400) (hr : r.val = min (128 * S.val + 128 * q.val / 257 + 1) 262399) :
    V m c main_v34 (ix3 S q j) = V m c main_v9 (ix2 r j) := by
  have e := V_v33 m c S q
  have h : V m c main_v34 = Host.gather gather_S262400x4_S2050x257x1_S2050x257x4_2_0_n_n_0_2_14 (V m c main_v9) (V m c main_v33) := by
    unfold V V0
    after_reads_simp
  rw [h]
  exact gather_record _ _ S q j r (by rw [e, hr])

/-- Record `(b, p)`: the three components of the point and 1, or four zeros at the appended position 1024. -/
def record (x : S256x1024x3.Idx → EReal) (b : Fin 256) (p : Fin 1025) (j : Fin 4) : EReal :=
  if hp : p.val < 1024 then if hj : j.val < 3 then x (ix3 b ⟨p.val, hp⟩ ⟨j.val, hj⟩) else 1 else 0

/-- The remainder by 1025 of a record number, as the program computes it: the sign corrections do nothing. -/
theorem position_word (r : Nat) (hr : r < 262400) :
    Scalar.select
      (IntOp.andi
        (IntOp.cmpi .ne (IntOp.cmpi .slt (IntOp.remsi .host (BitVec.ofNat 32 r) 1025#32) 0#32) (IntOp.cmpi .slt 1025#32 0#32))
        (IntOp.cmpi .ne (IntOp.remsi .host (BitVec.ofNat 32 r) 1025#32) 0#32))
      (IntOp.addi (IntOp.remsi .host (BitVec.ofNat 32 r) 1025#32) 1025#32)
      (IntOp.remsi .host (BitVec.ofNat 32 r) 1025#32) = BitVec.ofNat 32 (r % 1025) := by
  rw [Routing.remsi_word _ (by omega) (by omega) (by omega), WordCmp.cmpi_slt_ofNat (b := 0) (by omega) (by omega)]
  simp only [Nat.not_lt_zero, decide_false]
  exact Routing.select_zero_and _ _ _

/-- At a point of the cloud, the first three entries of the record are the point's components. -/
theorem record_point (x : S256x1024x3.Idx → EReal) (b : Fin 256) (p : Fin 1025) (j : Fin 4) (hp : p.val < 1024) (hj : j.val < 3) :
    record x b p j = x (ix3 b ⟨p.val, hp⟩ ⟨j.val, hj⟩) := by
  unfold record
  rw [dif_pos hp, dif_pos hj]

/-- At a point of the cloud, the last entry of the record is 1. -/
theorem record_valid (x : S256x1024x3.Idx → EReal) (b : Fin 256) (p : Fin 1025) (j : Fin 4) (hp : p.val < 1024) (hj : ¬j.val < 3) :
    record x b p j = 1 := by
  unfold record
  rw [dif_pos hp, dif_neg hj]

/-- At the appended position the record is zero. -/
theorem record_zero (x : S256x1024x3.Idx → EReal) (b : Fin 256) (p : Fin 1025) (j : Fin 4) (hp : ¬p.val < 1024) :
    record x b p j = 0 := by
  unfold record
  rw [dif_neg hp]

/-- Whether a position is a point, as a number. -/
theorem valid_value (p : Nat) (hp : p < 1025) :
    (FloatOps.uitofp (F := Ideal) .f32 (IntOp.cmpi .ne (BitVec.ofNat 32 p) 1024#32) : EReal) = if p < 1024 then 1 else 0 := by
  rw [show (1024#32 : BitVec 32) = BitVec.ofNat 32 1024 from rfl, WordCmp.cmpi_ne_ofNat (by omega) (by omega)]
  show (((BitVec.ofBool (decide (p ≠ 1024))).toNat : ℝ) : EReal) = _
  by_cases h : p < 1024
  · rw [if_pos h, decide_eq_true (by omega)]
    simp
  · rw [if_neg h, decide_eq_false (by omega)]
    simp

/-- The records as the program lays them out, `(b, p)` at row `1025 b + p`. -/
theorem V_v9 (b : Fin 256) (p : Fin 1025) (r : Fin 262400) (hr : r.val = 1025 * b.val + p.val) (j : Fin 4) :
    (V m c main_v9 : S262400x4.Idx → EReal) (ix2 r j) = record (m (c.tc.loc main_arg0)) b p j := by
  have hp := p.isLt
  have e : (Scalar.select (IntOp.cmpi CmpIPredicate.eq (id (constantI S_ 32 1025#32) ix0) 0#32) (1#32) (id (constantI S_ 32 1025#32) ix0)) = 1025#32 := rfl
  have h1 : r.val / 1025 = b.val := by omega
  have h2 : r.val % 1025 = p.val := by omega
  unfold V V0
  after_reads_at
  split
  · next hj =>
    split
    · refine Eq.trans ?_ (record_point _ b p j (by omega) hj).symm
      after_reads_simp
      exact congrArg (m (c.tc.loc main_arg0)) (congrArg₂ (fun u v => ix3 u v ⟨j.val, hj⟩) (Fin.ext h1) (Fin.ext h2))
    · refine Eq.trans ?_ (record_zero _ b p j (by omega)).symm
      after_reads_simp
      exact Ideal.ofBits_zero_f32
  · next hj =>
    simp only [e, position_word _ r.isLt, h2]
    refine (valid_value p.val hp).trans ?_
    split
    · next hp' => exact (record_valid _ b p j hp' hj).symm
    · next hp' => exact (record_zero _ b p j hp').symm

/-- The first gathered operand of slab `S`: record `128 S + n₀(q)`. -/
theorem V_first (S : Fin 2050) (q : Fin 257) (j : Fin 4) (b : Fin 256) (p : Fin 1025) (hr : 128 * S.val + 128 * q.val / 257 = 1025 * b.val + p.val) :
    (V m c main_v27 : S2050x257x4.Idx → EReal) (ix3 S q j) = record (m (c.tc.loc main_arg0)) b p j := by
  have hb := b.isLt
  have hp := p.isLt
  rw [V_v27 m c S q j ⟨1025 * b.val + p.val, by omega⟩ hr.symm]
  exact V_v9 m c b p _ rfl j

/-- The second gathered operand of slab `S`: the record after it, where there is one. -/
theorem V_next (S : Fin 2050) (q : Fin 257) (j : Fin 4) (b : Fin 256) (p : Fin 1025) (hr : 128 * S.val + 128 * q.val / 257 + 1 = 1025 * b.val + p.val) :
    (V m c main_v34 : S2050x257x4.Idx → EReal) (ix3 S q j) = record (m (c.tc.loc main_arg0)) b p j := by
  have hb := b.isLt
  have hp := p.isLt
  rw [V_v34 m c S q j ⟨1025 * b.val + p.val, by omega⟩ (by rw [hr]; exact (min_eq_left (by omega)).symm)]
  exact V_v9 m c b p _ rfl j

end Cert.FourierEncoding

end
-- ==== Proof.Tables.Rows.lean ====
module

public import Idealize.ShloMosaic.PureOps.Ideal
public import Mathlib.Tactic.FinCases

@[expose] public section

/-!
# Checking a constant table of the kernel against a formula

The kernel's five mask, frequency and phase tables have 257 rows of 128 words. Each is compared with a formula word by
word, by evaluation, eight rows at a time.
-/

namespace Cert.FourierEncoding

/-- The column of the encoding (0 … 256) that the flat position `k` of a slab holds. -/
abbrev col (k : Nat) : Nat := k % 257

/-- The table `t` agrees with the formula `f` on its rows `8 a … 8 a + 7` (those below 257). -/
def EightRows (t f : Nat → BitVec 32) (a : Nat) : Prop :=
  ∀ q : Fin 8, ∀ l : Fin 128, (257 ≤ 8 * a + q.val || (t (128 * (8 * a + q.val) + l.val)).toNat == (f (128 * (8 * a + q.val) + l.val)).toNat) = true

instance (t f : Nat → BitVec 32) (a : Nat) : Decidable (EightRows t f a) := by unfold EightRows; infer_instance

/-- Agreement on every group of eight rows is agreement everywhere. -/
theorem eq_of_eightRows {t f : Nat → BitVec 32} (h : ∀ a : Fin 33, EightRows t f a.val) (k : Nat) (hk : k < 32896) : t k = f k := by
  have := h ⟨k / 1024, by omega⟩ ⟨k / 128 % 8, by omega⟩ ⟨k % 128, by omega⟩
  dsimp only at this
  rw [show 128 * (8 * (k / 1024) + k / 128 % 8) + k % 128 = k by omega] at this
  rw [Bool.or_eq_true, decide_eq_true_iff, beq_iff_eq] at this
  rcases this with h | h
  · omega
  · exact BitVec.eq_of_toNat_eq h

end Cert.FourierEncoding
-- ==== Proof.Tables.Second.lean ====
module

public import proofs.«01_k».proof.KernelIdeal
public import proofs.«01_k».proof.Proof.Tables.Rows

@[expose] public section

namespace Cert.FourierEncoding

-- every word of the table is evaluated, which takes more than the default bound on the work of one declaration
set_option maxHeartbeats 0 in
/-- The table that marks the columns made from the second coordinate: 64 … 127 and 192 … 255. -/
theorem second_table (k : Nat) (hk : k < 32896) : KernelIdeal.lit1t k = if 64 ≤ col k % 128 ∧ col k < 256 then 1#32 else 0#32 :=
  eq_of_eightRows (f := fun k => if 64 ≤ col k % 128 ∧ col k < 256 then 1#32 else 0#32) (by intro a; fin_cases a <;> decide +kernel) k hk

end Cert.FourierEncoding
-- ==== Proof.Tables.Next.lean ====
module

public import proofs.«01_k».proof.KernelIdeal
public import proofs.«01_k».proof.Proof.Tables.Rows

@[expose] public section

namespace Cert.FourierEncoding

-- every word of the table is evaluated, which takes more than the default bound on the work of one declaration
set_option maxHeartbeats 0 in
/-- The table that marks the positions whose record is not the first record of their row of 128 (then it is the next one). -/
theorem next_table (k : Nat) (hk : k < 32896) : KernelIdeal.lit2t k = if k / 257 = 128 * (k / 128) / 257 then 0#32 else 1#32 :=
  eq_of_eightRows (f := fun k => if k / 257 = 128 * (k / 128) / 257 then 0#32 else 1#32) (by intro a; fin_cases a <;> decide +kernel) k hk

end Cert.FourierEncoding
-- ==== Proof.Tables.Pass.lean ====
module

public import proofs.«01_k».proof.KernelIdeal
public import proofs.«01_k».proof.Proof.Tables.Rows

@[expose] public section

namespace Cert.FourierEncoding

-- every word of the table is evaluated, which takes more than the default bound on the work of one declaration
set_option maxHeartbeats 0 in
/-- The table that marks the column of the third coordinate, which passes unchanged: 256. -/
theorem pass_table (k : Nat) (hk : k < 32896) : KernelIdeal.lit3t k = if col k = 256 then 1#32 else 0#32 :=
  eq_of_eightRows (f := fun k => if col k = 256 then 1#32 else 0#32) (by intro a; fin_cases a <;> decide +kernel) k hk

end Cert.FourierEncoding
-- ==== Proof.Tables.Phase.lean ====
module

public import proofs.«01_k».proof.KernelIdeal
public import proofs.«01_k».proof.Proof.Tables.Rows

@[expose] public section

namespace Cert.FourierEncoding

-- every word of the table is evaluated, which takes more than the default bound on the work of one declaration
set_option maxHeartbeats 0 in
/-- The table of phases: a half for the cosine columns 128 … 255, zero for the others. -/
theorem phase_table (k : Nat) (hk : k < 32896) : KernelIdeal.lit5t k = if 128 ≤ col k ∧ col k < 256 then 0x3F000000#32 else 0x00000000#32 :=
  eq_of_eightRows (f := fun k => if 128 ≤ col k ∧ col k < 256 then 0x3F000000#32 else 0x00000000#32) (by intro a; fin_cases a <;> decide +kernel) k hk

end Cert.FourierEncoding
-- ==== Proof.Tables.Freq.lean ====
module

public import proofs.«01_k».proof.KernelIdeal
public import proofs.«01_k».proof.ReferenceIdeal
public import proofs.«01_k».proof.Proof.Tables.Rows

@[expose] public section

namespace Cert.FourierEncoding

-- every word of the table is evaluated, which takes more than the default bound on the work of one declaration
set_option maxHeartbeats 0 in
/-- The table of frequencies repeats the reference's 64 frequencies four times along the columns and ends in a zero. -/
theorem freq_table (k : Nat) (hk : k < 32896) : KernelIdeal.lit4t k = if col k < 256 then ReferenceIdeal.lit0 ⟨col k % 64, Nat.mod_lt _ (by decide)⟩ else 0x00000000#32 :=
  eq_of_eightRows (f := fun k => if col k < 256 then ReferenceIdeal.lit0 ⟨col k % 64, Nat.mod_lt _ (by decide)⟩ else 0x00000000#32) (by intro a; fin_cases a <;> decide +kernel) k hk

end Cert.FourierEncoding
-- ==== Proof.Point.lean ====
module

public import proofs.«01_k».proof.Proof.Body
public import proofs.«01_k».proof.Proof.Ref
public import proofs.«01_k».proof.Proof.Host
public import proofs.«01_k».proof.Proof.Tables.Second
public import proofs.«01_k».proof.Proof.Tables.Next
public import proofs.«01_k».proof.Proof.Tables.Pass
public import proofs.«01_k».proof.Proof.Tables.Phase
public import proofs.«01_k».proof.Proof.Tables.Freq

@[expose] public section

noncomputable section

namespace Cert.FourierEncoding

open Idealize.ShloMosaic Idealize.ShloMosaic.TcCoe

/-- The word 0 picks the first value. -/
theorem pick_zero (a b : EReal) : pick 0#32 a b = a := rfl
/-- The word 1 picks the second value. -/
theorem pick_one (a b : EReal) : pick 1#32 a b = b := rfl

/-- What the body computes at one position, once the record is known. -/
def point (second pass : BitVec 32) (freq phase : EReal) (r : Fin 4 → EReal) : EReal :=
  pick pass (sinHalfTurns (pick second (r 0) (r 1) * freq + phase)) (r 2) * r 3

/-- Where the table says the first record, the body computes its position from the first record. -/
theorem cell_first (second pass : BitVec 32) (freq phase : EReal) (a b : Fin 4 → EReal) :
    cell second 0#32 pass freq phase a b = point second pass freq phase a := rfl

/-- Where the table says the next record, the body computes its position from the next record. -/
theorem cell_next (second pass : BitVec 32) (freq phase : EReal) (a b : Fin 4 → EReal) :
    cell second 1#32 pass freq phase a b = point second pass freq phase b := rfl

/-- The frequency that the kernel's table has at a place of column `k < 256` is the reference's. -/
theorem freq_place (n k : Nat) (hn : n < 32896) (hc : col n = k) (hk : k < 256) : Ideal.ofBits .f32 (KernelIdeal.lit4t n) = frequency k := by
  subst hc
  rw [freq_table n hn, if_pos hk]
  rfl

/-- At a place of column `k`, with the record of position `p` of row `b`, the body computes the encoding there. -/
theorem point_eq (x : KernelIdeal.S256x1024x3.Idx → EReal) (b : Fin 256) (p : Fin 1025) (k : Fin 257) (n : Nat) (hn : n < 32896) (hc : col n = k.val) :
    point (KernelIdeal.lit1t n) (KernelIdeal.lit3t n) (Ideal.ofBits .f32 (KernelIdeal.lit4t n)) (Ideal.ofBits .f32 (KernelIdeal.lit5t n)) (record x b p)
      = encoding x b p k := by
  have hk := k.isLt
  by_cases hp : p.val < 1024
  · unfold point
    rw [record_valid x b p 3 hp (by decide), mul_one, pass_table n hn, hc]
    by_cases h4 : k.val < 256
    · rw [if_neg (by omega), pick_zero, freq_place n k.val hn hc h4, second_table n hn, phase_table n hn, hc, sinHalfTurns_eq]
      by_cases h2 : k.val < 128
      · rw [if_neg (show ¬(128 ≤ k.val ∧ k.val < 256) by omega), Ideal.ofBits_zero_f32, add_zero]
        by_cases h1 : k.val < 64
        · rw [if_neg (by omega), pick_zero, record_point x b p 0 hp (by decide), encoding_sin0 x b p k hp h1]
          rfl
        · rw [if_pos (by omega), pick_one, record_point x b p 1 hp (by decide), encoding_sin1 x b p k hp h1 h2]
          rfl
      · rw [if_pos (show 128 ≤ k.val ∧ k.val < 256 by omega), sin_quarter]
        by_cases h3 : k.val < 192
        · rw [if_neg (by omega), pick_zero, record_point x b p 0 hp (by decide), encoding_cos0 x b p k hp h2 h3]
          rfl
        · rw [if_pos (by omega), pick_one, record_point x b p 1 hp (by decide), encoding_cos1 x b p k hp h3 h4]
          rfl
    · rw [if_pos (by omega), pick_one, record_point x b p 2 hp (by decide), encoding_last x b p k hp h4]
      rfl
  · unfold point
    rw [record_zero x b p 3 hp, mul_zero, encoding_appended x b p k hp]

end Cert.FourierEncoding

end
-- ==== Proof.Value.lean ====
module

public import proofs.«01_k».proof.Proof.Arr
public import proofs.«01_k».proof.Proof.Run
public import proofs.«01_k».proof.Proof.Point

@[expose] public section

noncomputable section

namespace Cert.FourierEncoding

open Idealize.ShloMosaic Idealize.ShloMosaic.TcCoe Cert.KernelIdeal Cert.KernelIdeal.Gen

set_option maxRecDepth 16384

variable (m : (ℓ : Loc nD τ sig) → Buf (Elt Ideal) ℓ) (c : Dev nD)

/-- Slab `S` at place `(q, l)`, which is column `k` of the record of position `p` of row `b`, holds the encoding there:
    the record is the first or the second of the two gathered ones, as the table says. -/
theorem slabs_apply (S : Fin 2050) (q : Fin 257) (l : Fin 128) (b : Fin 256) (p : Fin 1025) (k : Fin 257)
    (h : 32896 * S.val + (128 * q.val + l.val) = 257 * (1025 * b.val + p.val) + k.val) :
    slabs m c (ix3 S q l) = encoding (m (c.tc.loc main_arg0)) b p k := by
  have hq := q.isLt
  have hl := l.isLt
  have hk := k.isLt
  have hn : 128 * q.val + l.val < 32896 := by omega
  have hc : col (128 * q.val + l.val) = k.val := by unfold col; omega
  have hd : (128 * q.val + l.val) / 128 = q.val := by omega
  show cell ((V m c main_c_0 : S257x128.Idx → BitVec 32) (ix2 q l)) ((V m c main_c_1 : S257x128.Idx → BitVec 32) (ix2 q l))
    ((V m c main_c_2 : S257x128.Idx → BitVec 32) (ix2 q l)) ((V m c main_cst : S257x128.Idx → EReal) (ix2 q l))
    ((V m c main_cst_3 : S257x128.Idx → EReal) (ix2 q l))
    (fun j => (V m c main_v27 : S2050x257x4.Idx → EReal) (ix3 S q j)) (fun j => (V m c main_v34 : S2050x257x4.Idx → EReal) (ix3 S q j)) = _
  rw [V_second_table, V_after_table, V_pass_table, V_freq_table, V_phase_table, next_table _ hn, hd]
  by_cases h0 : (128 * q.val + l.val) / 257 = 128 * q.val / 257
  · rw [if_pos h0, cell_first, funext fun j => V_first m c S q j b p (by omega)]
    exact point_eq _ b p k _ hn hc
  · rw [if_neg h0, cell_next, funext fun j => V_next m c S q j b p (by omega)]
    exact point_eq _ b p k _ hn hc

/-- The kernel's first result, the slabs read as rows, positions and columns, is the encoding of its first argument. -/
theorem result_apply (b : Fin 256) (p : Fin 1025) (k : Fin 257) :
    shapeCast S256x1025x257 ((dats m 0 c).arrAt 7 cfg0.N : S2050x257x128.Idx → EReal) shapeCasts_S2050x257x128_S256x1025x257 (ix3 b p k)
      = encoding (m (c.tc.loc main_arg0)) b p k := by
  have hb := b.isLt
  have hp := p.isLt
  have hk := k.isLt
  rw [arr_eq]
  have hS : (257 * (1025 * b.val + p.val) + k.val) / 32896 < 2050 := by omega
  rw [shapeCast_apply _ _ _ (ix3 (⟨(257 * (1025 * b.val + p.val) + k.val) / 32896, hS⟩ : Fin 2050)
    (⟨(257 * (1025 * b.val + p.val) + k.val) % 32896 / 128, by omega⟩ : Fin 257) (⟨(257 * (1025 * b.val + p.val) + k.val) % 128, by omega⟩ : Fin 128))
    (by
      rw [rowMajor_val3 _ 32896 128 rfl rfl, rowMajor_val3 _ 263425 257 rfl rfl]
      dsimp only [ix3, Matrix.cons_val]
      omega)]
  exact slabs_apply m c _ _ _ b p k (by dsimp only; omega)

end Cert.FourierEncoding

end
-- ==== Proof.lean ====
module

public import proofs.«01_k».proof.Defs
public import proofs.«01_k».proof.Proof.Value
public import proofs.«01_k».proof.Proof.Gen.ReferenceIdeal.Run
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import Idealize.ShloMosaic.Lib.Quiescent
public import Idealize.ShloMosaic.Adequacy
public import Idealize.ShloMosaic.Init

@[expose] public section

noncomputable section

namespace Cert.Proof

open Idealize.ShloMosaic Idealize.SL.Sem Cert.FourierEncoding

/-- The reference ends with its arguments as they were; it has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The name `pi` stands for π, and the constant printed for it is that number's nearest float. -/
theorem preserves : Cert.preserves_Kernel_KernelIdeal :=
  IdealRules.named_const.statement Cert.KernelIdeal.κ "pi" .f32 0x40490FDB#32 ((Real.pi : ℝ) : EReal) rfl

/-- Over the reals the kernel and the reference end with the same encoding and the same mask. -/
theorem algebraic : Cert.algebraic_KernelIdeal_ReferenceIdeal := by
  intro m ρ m' ρ' _ hagree
  refine ⟨fun c => (fun i => encoding (m (c.tc.loc Cert.KernelIdeal.main_arg0)) (i 0) (i 1) (i 2) : Cert.KernelIdeal.S256x1025x257.Idx → EReal),
    fun c => extended (m (c.tc.loc Cert.KernelIdeal.main_arg1)),
    ?_, ?_⟩
  · refine (θ_run Cert.KernelIdeal.defs _ _).mono (fun r h c => ⟨(h c).1.trans (funext fun i => ?_), (h c).2⟩) (kernel_run m ρ)
    exact (congrArg _ (eq_ix3 i)).trans (result_apply m c (i 0) (i 1) (i 2))
  · refine (θ_run Cert.ReferenceIdeal.defs _ _).mono (fun r h c => ⟨funext fun i => ?_, (h c).2.1.trans ?_, (h c).2.2⟩) (reference_run m' ρ')
    · refine (congrArg _ (eq_ix3 i)).trans (((h c).1 (i 0) (i 1) (i 2)).trans ?_)
      rw [(hagree c).1]
    · rw [(hagree c).2]
      rfl

/-- All five claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, preserves, algebraic⟩

end Cert.Proof

end
